-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_block_diagonal [hPre_block_diagonal : Cert.Pre_block_diagonal.Facts] (m : (ℓ : Loc Cert.KernelIdeal.nD Cert.KernelIdeal.τ Cert.KernelIdeal.sig) → Buf (Elt Ideal) ℓ) : Prop :=
  ∀ c : Dev Cert.KernelIdeal.nD,
    (Cert.Pre_block_diagonal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_block_diagonal [hPre_block_diagonal : Cert.Pre_block_diagonal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_block_diagonal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_block_diagonal [hKernelIdeal : Cert.KernelIdeal.Facts] [hPre_block_diagonal : Cert.Pre_block_diagonal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_block_diagonal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_block_diagonal [hReferenceIdeal : Cert.ReferenceIdeal.Facts] [hPre_block_diagonal : Cert.Pre_block_diagonal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_block_diagonal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_block_diagonal [hKernelIdeal : Cert.KernelIdeal.Facts] [hReferenceIdeal : Cert.ReferenceIdeal.Facts] [hPre_block_diagonal : Cert.Pre_block_diagonal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_block_diagonal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_block_diagonal : Cert.Pre_block_diagonal.Facts),
    quiescent_Kernel (hKernel := hKernel)
    ∧ quiescent_KernelIdeal (hKernelIdeal := hKernelIdeal)
    ∧ quiescent_KernelIdeal_pre_block_diagonal (hKernelIdeal := hKernelIdeal) (hPre_block_diagonal := hPre_block_diagonal)
    ∧ quiescent_ReferenceIdeal (hReferenceIdeal := hReferenceIdeal)
    ∧ quiescent_ReferenceIdeal_pre_block_diagonal (hReferenceIdeal := hReferenceIdeal) (hPre_block_diagonal := hPre_block_diagonal)
    ∧ preserves_Kernel_KernelIdeal
    ∧ algebraic_KernelIdeal_ReferenceIdeal_pre_block_diagonal (hKernelIdeal := hKernelIdeal) (hReferenceIdeal := hReferenceIdeal) (hPre_block_diagonal := hPre_block_diagonal)
-- ==== Pre_block_diagonal.lean ====
abbrev S1x12x2048x2048 : Shape := ⟨4, ![1, 12, 2048, 2048]⟩
abbrev S1x12x2048x64 : Shape := ⟨4, ![1, 12, 2048, 64]⟩
abbrev S_ : Shape := ⟨0, ![]⟩

class Facts : Prop where
  bcast_S_S1x12x2048x2048 : S_.BroadcastsInDim S1x12x2048x2048 (![] : Fin 0 → Fin S1x12x2048x2048.rank)

variable [Facts]

def fn {F : FTy → Type} [FloatOps F] (main_arg0 : FVec F S1x12x2048x2048 .f32) (main_arg1 : FVec F S1x12x2048x64 .f32) : IVec S1x12x2048x2048 1 :=
  let main_v0 : IVec S1x12x2048x2048 32 := iotaInDim S1x12x2048x2048 32 2
  let main_v1 : IVec S1x12x2048x2048 32 := iotaInDim S1x12x2048x2048 32 3
  let main_c : IVec S_ 32 := constantI S_ 32 256#32
  let main_v2 : IVec S1x12x2048x2048 32 := broadcastInDim S1x12x2048x2048 ![] bcast_S_S1x12x2048x2048 main_c
  let main_v3 : IVec S1x12x2048x2048 32 := Host.divsi main_v0 main_v2
  let main_c_0 : IVec S_ 32 := constantI S_ 32 256#32
  let main_v4 : IVec S1x12x2048x2048 32 := broadcastInDim S1x12x2048x2048 ![] bcast_S_S1x12x2048x2048 main_c_0
  let main_v5 : IVec S1x12x2048x2048 32 := Host.divsi main_v1 main_v4
  let main_v6 : IVec S1x12x2048x2048 1 := cmpi .eq main_v3 main_v5
  let main_cst : FVec F S_ .f32 := constant S_ .f32 0x00000000#32
  let main_v7 : FVec F S1x12x2048x2048 .f32 := broadcastInDim S1x12x2048x2048 ![] bcast_S_S1x12x2048x2048 main_cst
  let main_v8 : IVec S1x12x2048x2048 1 := cmpf .oeq main_arg0 main_v7
  let main_v9 : IVec S1x12x2048x2048 1 := ori main_v6 main_v8
  main_v9
-- ==== Kernel.lean ====
abbrev S1x12x2048x2048 : Shape := ⟨4, ![1, 12, 2048, 2048]⟩
abbrev S1x12x2048x64 : Shape := ⟨4, ![1, 12, 2048, 64]⟩
abbrev S12x2048x2048 : Shape := ⟨3, ![12, 2048, 2048]⟩
abbrev S12x2048x64 : Shape := ⟨3, ![12, 2048, 64]⟩
abbrev S12x64x2048 : Shape := ⟨3, ![12, 64, 2048]⟩
abbrev S12x64x512 : Shape := ⟨3, ![12, 64, 512]⟩
abbrev S12x256x256 : Shape := ⟨3, ![12, 256, 256]⟩
abbrev S12x64x256 : Shape := ⟨3, ![12, 64, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x12x2048x2048, .f32⟩
  | .hbm, ⟨1, _⟩ => ⟨S1x12x2048x64, .f32⟩
  | .hbm, ⟨2, _⟩ => ⟨S12x2048x2048, .f32⟩
  | .hbm, ⟨3, _⟩ => ⟨S12x2048x64, .f32⟩
  | .hbm, ⟨4, _⟩ => ⟨S12x64x2048, .f32⟩
  | .hbm, ⟨5, _⟩ => ⟨S12x64x2048, .f32⟩
  | .hbm, ⟨6, _⟩ => ⟨S12x2048x64, .f32⟩
  | .hbm, ⟨7, _⟩ => ⟨S1x12x2048x64, .f32⟩
  | .local _ .vmem, ⟨0, _⟩ => ⟨S12x64x512, .f32⟩
  | .local _ .vmem, ⟨1, _⟩ => ⟨S12x64x512, .f32⟩
  | .local _ .vmem, ⟨2, _⟩ => ⟨S12x256x256, .f32⟩
  | .local _ .vmem, ⟨3, _⟩ => ⟨S12x256x256, .f32⟩
  | .local _ .vmem, ⟨4, _⟩ => ⟨S12x256x256, .f32⟩
  | .local _ .vmem, ⟨5, _⟩ => ⟨S12x256x256, .f32⟩
  | .local _ .vmem, ⟨6, _⟩ => ⟨S12x64x512, .f32⟩
  | .local _ .vmem, ⟨7, _⟩ => ⟨S12x64x512, .f32⟩
  | _, _ => ⟨S1x12x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c2_i32_0 : BitVec 32 := 2#32
  let v2 : BitVec 32 := Scalar.muli c2_i32_0 arg0
  let c0_i32_1 : BitVec 32 := 0#32
  let v3 : BitVec 32 := Scalar.addi v2 c0_i32_1
  let c0_i32_2 : BitVec 32 := 0#32
  let c0_i32_3 : BitVec 32 := 0#32
  ![c0_i32_2.toNat, v1.toNat, v3.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c2_i32_0 : BitVec 32 := 2#32
  let v2 : BitVec 32 := Scalar.muli c2_i32_0 arg0
  let c1_i32_1 : BitVec 32 := 1#32
  let v3 : BitVec 32 := Scalar.addi v2 c1_i32_1
  let c0_i32 : BitVec 32 := 0#32
  let c0_i32_2 : BitVec 32 := 0#32
  ![c0_i32.toNat, v1.toNat, v3.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S12x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S12x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x12x2048x2048 : Shape := ⟨4, ![1, 12, 2048, 2048]⟩
abbrev S1x12x2048x64 : Shape := ⟨4, ![1, 12, 2048, 64]⟩
abbrev S12x2048x2048 : Shape := ⟨3, ![12, 2048, 2048]⟩
abbrev S12x2048x64 : Shape := ⟨3, ![12, 2048, 64]⟩

abbrev nBuf : Space → Nat
  | .hbm => 6
  | .vmem => 0
  | .smem => 0
  | _ => 0

abbrev bufTy : (tb : Table) → Fin (tcTables nBuf tb) → BufTy
  | .hbm, ⟨0, _⟩ => ⟨S1x12x2048x2048, .f32⟩
  | .hbm, ⟨1, _⟩ => ⟨S1x12x2048x64, .f32⟩
  | .hbm, ⟨2, _⟩ => ⟨S12x2048x2048, .f32⟩
  | .hbm, ⟨3, _⟩ => ⟨S12x2048x64, .f32⟩
  | .hbm, ⟨4, _⟩ => ⟨S12x2048x64, .f32⟩
  | .hbm, ⟨5, _⟩ => ⟨S1x12x2048x64, .f32⟩
  | _, _ => ⟨S1x12x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.TileProduct.lean ====
module

public import proofs.«01_k».proof.Proof.Gen.KernelIdeal.Skeleton
public import Idealize.ShloMosaic.Lib.Pointwise

/-! # One block of the kernel

The kernel's body reads one half of its transposed right operand (12 heads, 64 features, 256 positions) and one
square block of its left operand (12 heads, 256 rows, 256 columns), and multiplies them. At head `h`, feature `d` and
row `s` the product is the sum over the 256 columns `k` of right operand at `(h, d, k)` times left operand at
`(h, s, k)`. The body does this twice, once per half; the two lemmas here say it for each. -/

@[expose] public section

set_option maxRecDepth 16384

noncomputable section

namespace Cert.TileProduct

open Cert.KernelIdeal Cert.KernelIdeal.Gen Idealize.ShloMosaic
open scoped BigOperators

/-- What the first half's product holds at head `h`, feature `d`, row `s`. -/
theorem first_half (u : Vec Ideal S12x64x256 .f32) (v : Vec Ideal S12x256x256 .f32) (h : Fin 12) (d : Fin 64)
    (s : Fin 256) :
    k0_pay1 (F := Ideal) u v (ix3 h d s) = ∑ k : Fin 256, u (ix3 h d k) * v (ix3 h s k) := by
  pointwise [k0_pay1]

/-- What the second half's product holds at head `h`, feature `d`, row `s`. -/
theorem second_half (u : Vec Ideal S12x64x256 .f32) (v : Vec Ideal S12x256x256 .f32) (h : Fin 12) (d : Fin 64)
    (s : Fin 256) :
    k0_pay2 (F := Ideal) u v (ix3 h d s) = ∑ k : Fin 256, u (ix3 h d k) * v (ix3 h s k) := by
  pointwise [k0_pay2]

end Cert.TileProduct

end
-- ==== Proof.ArrayHolds.lean ====
module

public import proofs.«01_k».proof.Proof.TileProduct
public import proofs.«01_k».proof.Proof.Gen.KernelIdeal.Frame
public import Idealize.ShloMosaic.Lib.Pipeline.ValueKit

/-! # What the kernel's output array holds after its four steps

Step `t` of the grid writes positions `512 t … 512 t + 511` of the output array, in two halves of 256. Half `e` uses
the square block of the left operand whose rows and columns both run from `256 (2 t + e)`, and the same 256 positions
of the right operand. So row `s` of the output only meets the 256 columns that share its block number `s / 256`. -/

@[expose] public section

set_option maxRecDepth 16384

noncomputable section

namespace Cert.ArrayHolds

open Cert.KernelIdeal Cert.KernelIdeal.Gen Idealize.ShloMosaic Idealize.ShloMosaic.TcCoe Idealize.SL.Sem
open scoped BigOperators

/-- Column number `k` of the diagonal block that row `s` lies in. -/
def col (s : Fin 2048) (k : Fin 256) : Fin 2048 := ⟨256 * (s.val / 256) + k.val, by omega⟩

/-- The block-diagonal product, features before positions: at head `h`, feature `d`, position `s`, the sum over the 256
    columns of the diagonal block of `s` of `x` (right operand, transposed) times `y` (left operand). -/
def blocks (x : S12x64x2048.Idx → EReal) (y : S12x2048x2048.Idx → EReal) : S12x64x2048.Idx → EReal := fun i =>
  ∑ k : Fin 256, x (ix3 (i 0) (i 1) (col (i 2) k)) * y (ix3 (i 0) (i 2) (col (i 2) k))

/-- Which block of its array each window shows at step `t`. -/
theorem windows : ∀ t : Fin grid0.N,
    win0_0.index t = ![0, 0, t.val] ∧ win0_1.index t = ![0, 2 * t.val, 2 * t.val]
      ∧ win0_2.index t = ![0, 2 * t.val + 1, 2 * t.val + 1] ∧ win0_3.index t = ![0, 0, t.val] := by
  decide +kernel

/-- The first half of step `t`'s block is the block-diagonal product where that half lands in the output array. -/
theorem first_tile (X : S12x64x2048.Idx → EReal) (Y : S12x2048x2048.Idx → EReal) (t : Fin grid0.N)
    (y0 : Fin 12) (y1 : Fin 64) (y2 : Fin 512) (x0 : Fin 12) (x1 : Fin 64) (x2 : Fin 256)
    (h0 : y0.val = x0.val) (h1 : y1.val = x1.val) (h2 : y2.val = x2.val) :
    k0_pay1 (F := Ideal) (View.ld ((win0_0.blk t).view.read (Elt Ideal) X) r0_0)
        (View.ld ((win0_1.blk t).view.read (Elt Ideal) Y) r0_1) (ix3 x0 x1 x2)
      = blocks X Y ((win0_3.blk t).view.emb (ix3 y0 y1 y2)) := by
  obtain ⟨e0, e1, e2, e3⟩ := windows t
  rw [TileProduct.first_half]
  unfold blocks col
  refine Finset.sum_congr rfl fun k _ => ?_
  congr 1
  · change X ((win0_0.blk t).view.emb (r0_0.emb (ix3 x0 x1 k))) = X _
    blk_ext [e0, e3]
  · change Y ((win0_1.blk t).view.emb (r0_1.emb (ix3 x0 x2 k))) = Y _
    blk_ext [e1, e3]

/-- The same for the second half, which lands 256 positions later. -/
theorem second_tile (X : S12x64x2048.Idx → EReal) (Y : S12x2048x2048.Idx → EReal) (t : Fin grid0.N)
    (y0 : Fin 12) (y1 : Fin 64) (y2 : Fin 512) (x0 : Fin 12) (x1 : Fin 64) (x2 : Fin 256)
    (h0 : y0.val = x0.val) (h1 : y1.val = x1.val) (h2 : y2.val = 256 + x2.val) :
    k0_pay2 (F := Ideal) (View.ld ((win0_0.blk t).view.read (Elt Ideal) X) r0_2)
        (View.ld ((win0_2.blk t).view.read (Elt Ideal) Y) r0_1) (ix3 x0 x1 x2)
      = blocks X Y ((win0_3.blk t).view.emb (ix3 y0 y1 y2)) := by
  obtain ⟨e0, e1, e2, e3⟩ := windows t
  rw [TileProduct.second_half]
  unfold blocks col
  refine Finset.sum_congr rfl fun k _ => ?_
  congr 1
  · change X ((win0_0.blk t).view.emb (r0_2.emb (ix3 x0 x1 k))) = X _
    blk_ext [e0, e3]
  · change Y ((win0_2.blk t).view.emb (r0_1.emb (ix3 x0 x2 k))) = Y _
    blk_ext [e2, e3]

variable (m : (ℓ : Loc nD τ sig) → Buf (Elt Ideal) ℓ)

/-- After the last step the output array is the block-diagonal product of the two arrays the kernel was given. -/
theorem output (c : Dev nD) : (dats m 0 c).arrAt 3 cfg0.N = blocks (V m c main_v2) (V m c main_v0) := by
  refine (dats m 0 c).arrAt_eq_of_covers 3 _ (by decide +kernel) fun t _ y => ?_
  rw [after0_3]
  unfold out0_3
  have i0 : iblk m c 0 t = (win0_0.blk t).view.read (Elt Ideal) (V m c main_v2) := rfl
  have i1 : iblk m c 1 t = (win0_1.blk t).view.read (Elt Ideal) (V m c main_v0) := rfl
  have i2 : iblk m c 2 t = (win0_2.blk t).view.read (Elt Ideal) (V m c main_v0) := rfl
  rw [i0, i1, i2]
  generalize V m c main_v2 = X
  generalize V m c main_v0 = Y
  idx_vars y
  canon_tiles x h
  · idx_vars x
    exact second_tile X Y t _ _ _ _ _ _ h0 h1 h2
  · idx_vars x
    exact first_tile X Y t _ _ _ _ _ _ h0 h1 h2

end Cert.ArrayHolds

end
-- ==== Proof.KernelResult.lean ====
module

public import proofs.«01_k».proof.Proof.ArrayHolds
public import Idealize.ShloMosaic.Lib.Claim

/-! # The kernel program's result

The program reshapes both arguments to drop the leading 1, transposes the right one, runs the kernel, then transposes
and reshapes back. -/

@[expose] public section

set_option maxRecDepth 16384

noncomputable section

namespace Cert.KernelResult

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The whole program as a function of its two arguments. -/
def result (a : S1x12x2048x2048.Idx → EReal) (b : S1x12x2048x64.Idx → EReal) : S1x12x2048x64.Idx → EReal :=
  shapeCast S1x12x2048x64 (transpose S12x2048x64 [0, 2, 1]
    (ArrayHolds.blocks (transpose S12x64x2048 [0, 2, 1]
        (shapeCast S12x2048x64 b shapeCasts_S1x12x2048x64_S12x2048x64) transposes_S12x2048x64_S12x64x2048_0_2_1)
      (shapeCast S12x2048x2048 a shapeCasts_S1x12x2048x2048_S12x2048x2048))
    transposes_S12x64x2048_S12x2048x64_0_2_1) shapeCasts_S12x2048x64_S1x12x2048x64

/-- The kernel's left operand is the left argument without its leading 1. -/
theorem left_entry (c : Dev nD) : V m c main_v0 =
    shapeCast S12x2048x2048 (m ((c.tc : Thread nD τ).loc main_arg0)) shapeCasts_S1x12x2048x2048_S12x2048x2048 := by
  change after hostOps0 _ _ = _
  after_results <;> rfl

/-- The kernel's right operand is the right argument without its leading 1, features before positions. -/
theorem right_entry (c : Dev nD) : V m c main_v2 =
    transpose S12x64x2048 [0, 2, 1]
      (shapeCast S12x2048x64 (m ((c.tc : Thread nD τ).loc main_arg1)) shapeCasts_S1x12x2048x64_S12x2048x64)
      transposes_S12x2048x64_S12x64x2048_0_2_1 := by
  change after hostOps0 _ _ = _
  after_results <;> rfl

/-- The two operations after the kernel transpose and reshape its output array. -/
theorem tail_value (c : Dev nD) :
    Pipeline.afterTail₀ cfgs (dats m) 0 (V0 m) [hostOps1] c main_v5
      = result (m ((c.tc : Thread nD τ).loc main_arg0)) (m ((c.tc : Thread nD τ).loc main_arg1)) := by
  change after hostOps1 _ _ = _
  have h3 := (dats m 0 c).withArrays_arrAt sharedIn0 (V0 m c) (A_eq m c) 3
  rw [ArrayHolds.output, left_entry, right_entry] at h3
  after_results
  exact congrArg (fun z : S12x64x2048.Idx → EReal => shapeCast S1x12x2048x64 (transpose S12x2048x64 [0, 2, 1] z
    transposes_S12x64x2048_S12x2048x64_0_2_1) shapeCasts_S12x2048x64_S1x12x2048x64) h3

/-- Every run of the program ends with `result` of the arguments in its result array and the arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have h := θ_run_and (run_main m ρ) (unchanged m ρ)
  refine (θ_run defs _ _).mono (fun r h c => ⟨?_, h.2 c⟩) h
  rw [(h.1 c).2 main_v5 (Pipeline.mem_restRefs_of main_v5 (by decide) (by decide)), tail_value]

end Cert.KernelResult

end
-- ==== Proof.Mask.lean ====
module

public import proofs.«01_k».proof.Defs
public import proofs.«01_k».proof.Proof.Gen.Pre_block_diagonal
public import Idealize.ShloMosaic.Lib.Pointwise
public import Idealize.ShloMosaic.Lib.Claim

/-! # What the precondition says of one entry

The precondition holds when every entry of the left argument is either inside one of the 256 by 256 diagonal blocks or
equal to zero. So an entry outside the diagonal blocks is zero. -/

@[expose] public section

set_option maxRecDepth 16384

noncomputable section

namespace Cert.Mask

open Cert.Pre_block_diagonal Cert.Pre_block_diagonal.Gen Idealize.ShloMosaic

/-- Dividing the word of a position below 2048 by the word 256 gives the word of its block number. -/
theorem block_number : ∀ n : Fin 2048,
    (IntOp.divsi ArithUnit.host (BitVec.ofNat 32 n.val) 256#32).toNat = n.val / 256 := by
  decide +kernel

/-- Under the precondition the left argument is zero at every row `s` and column `k` of different blocks. -/
theorem zero_off_block (a : S1x12x2048x2048.Idx → EReal) (b : S1x12x2048x64.Idx → EReal)
    (hp : Cert.Pre_block_diagonal.fn (F := Ideal) a b = fun _ => 1#1) (h : Fin 12) (s k : Fin 2048)
    (hsk : s.val / 256 ≠ k.val / 256) : a (ix4 0 h s k) = 0 := by
  have e := congrFun hp (ix4 0 h s k)
  unfold Cert.Pre_block_diagonal.fn at e
  pointwise at e
  have hne : IntOp.divsi ArithUnit.host (BitVec.ofNat 32 s.val) 256#32
      ≠ IntOp.divsi ArithUnit.host (BitVec.ofNat 32 k.val) 256#32 := fun q =>
    hsk (by rw [← block_number s, ← block_number k, q])
  by_contra hz
  simp [IntOp.ori, IntOp.cmpi, beq_eq_false_iff_ne.mpr hne, hz] at e

end Cert.Mask

end
-- ==== Proof.Equation.lean ====
module

public import proofs.«01_k».proof.Proof.KernelResult
public import proofs.«01_k».proof.Proof.Mask
public import proofs.«01_k».proof.Proof.Gen.ReferenceIdeal.Read

/-! # The equation between the kernel and the reference

The reference sums over all 2048 columns; the kernel sums over the 256 columns of the row's diagonal block. The columns
left out carry a left-hand factor that the precondition makes zero, and zero times any extended real is zero. -/

@[expose] public section

set_option maxRecDepth 16384

noncomputable section

namespace Cert.Equation

open Idealize.ShloMosaic
open scoped BigOperators

/-- A sum over 2048 columns whose terms vanish outside the block of `s` is the sum over that block. -/
theorem sum_block (s : Fin 2048) (f : Fin 2048 → EReal)
    (hf : ∀ k : Fin 2048, s.val / 256 ≠ k.val / 256 → f k = 0) :
    ∑ k : Fin 2048, f k = ∑ k : Fin 256, f (ArrayHolds.col s k) := by
  symm
  refine Finset.sum_of_injOn (ArrayHolds.col s) ?_
    (fun _ _ => Finset.mem_coe.mpr (Finset.mem_univ _)) ?_ fun _ _ => rfl
  · intro i _ j _ h
    have := congrArg Fin.val h
    simp only [ArrayHolds.col] at this
    ext
    omega
  · intro k _ hk
    refine hf k fun hs => hk ⟨⟨k.val % 256, Nat.mod_lt _ (by decide)⟩, Finset.mem_coe.mpr (Finset.mem_univ _), ?_⟩
    ext
    simp only [ArrayHolds.col]
    omega

/-- The kernel program's result at head `h`, row `s`, feature `d`. -/
theorem kernel_at (a : KernelIdeal.S1x12x2048x2048.Idx → EReal) (b : KernelIdeal.S1x12x2048x64.Idx → EReal)
    (h : Fin 12) (s : Fin 2048) (d : Fin 64) : KernelResult.result a b (ix4 0 h s d)
      = ∑ k : Fin 256, b (ix4 0 h (ArrayHolds.col s k) d) * a (ix4 0 h s (ArrayHolds.col s k)) := by
  pointwise [KernelResult.result, ArrayHolds.blocks]

/-- The reference's result at the same place. -/
theorem reference_at (a : KernelIdeal.S1x12x2048x2048.Idx → EReal) (b : KernelIdeal.S1x12x2048x64.Idx → EReal)
    (h : Fin 12) (s : Fin 2048) (d : Fin 64) : ReferenceIdeal.Read.val_main_v3 (F := Ideal) a b (ix4 0 h s d)
      = ∑ k : Fin 2048, a (ix4 0 h s k) * b (ix4 0 h k d) := by
  pointwise [ReferenceIdeal.Read.val_main_v3, ReferenceIdeal.Read.val_main_v2, ReferenceIdeal.Read.val_main_v1,
    ReferenceIdeal.Read.val_main_v0]

/-- Under the precondition the kernel's result is the reference's. -/
theorem results_eq (a : KernelIdeal.S1x12x2048x2048.Idx → EReal) (b : KernelIdeal.S1x12x2048x64.Idx → EReal)
    (hp : Cert.Pre_block_diagonal.fn (F := Ideal) a b = fun _ => 1#1) :
    ReferenceIdeal.Read.val_main_v3 (F := Ideal) a b = KernelResult.result a b := by
  funext i
  idx_vars i
  obtain rfl : i0 = 0 := Subsingleton.elim _ _
  rw [kernel_at, reference_at, sum_block i2 _ fun k hk => by rw [Mask.zero_off_block a b hp i1 i2 k hk, zero_mul]]
  exact Finset.sum_congr rfl fun k _ => mul_comm _ _

end Cert.Equation

end
-- ==== Proof.lean ====
/- The proof that the kernel computes its problem. The frames (every run ends, the arguments are unchanged, every
   semaphore counter is back at zero) are the generated ones. The value is proved in four steps, one module each:
   Proof/TileProduct.lean (one block), Proof/ArrayHolds.lean and Proof/KernelResult.lean (what the output array and the
   result hold), Proof/Mask.lean (what the precondition says of an entry), Proof/Equation.lean (the equation with the
   reference). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_block_diagonal
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the reference ends with its arguments unchanged and every semaphore counter at zero. -/
theorem reference_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run (F := Ideal) m g)

/-- The kernel and the reference, from equal arguments that satisfy the precondition, end with equal results. -/
theorem same_result : Cert.algebraic_KernelIdeal_ReferenceIdeal_pre_block_diagonal
    (hKernelIdeal := Cert.KernelIdeal.Gen.facts) (hReferenceIdeal := Cert.ReferenceIdeal.Gen.facts)
    (hPre_block_diagonal := Cert.Pre_block_diagonal.Gen.facts) := by
  intro m g m' g' hpre hagree
  refine ⟨_, Cert.KernelResult.run m g, ?_⟩
  refine (θ_run _ _ _).mono (fun r h c => ⟨?_, (h c).2⟩) (Cert.ReferenceIdeal.Value.run (F := Ideal) m' g')
  rw [(h c).1, Cert.ReferenceIdeal.Read.val_main_v3_eq, (hagree c).1, (hagree c).2]
  exact Cert.Equation.results_eq _ _ (hpre c)

/-- All the claims together. -/
theorem claim : Cert.Claim := ⟨Cert.Kernel.Gen.facts, Cert.KernelIdeal.Gen.facts, Cert.ReferenceIdeal.Gen.facts,
  Cert.Pre_block_diagonal.Gen.facts, fun m ρ _ => Cert.Kernel.Gen.frame m ρ, fun m ρ _ => Cert.KernelIdeal.Gen.frame m ρ,
  fun m ρ _ => Cert.KernelIdeal.Gen.frame m ρ, reference_frame, fun m g _ => reference_frame m g trivial, trivial,
  same_result⟩

end Cert.Proof

end
